-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8192x4096 : Shape := ⟨2, ![8192, 4096]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S8192x4096 .f32) (main_arg1 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 4096#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Kernel.lean ====
abbrev S8192x4096 : Shape := ⟨2, ![8192, 4096]⟩
abbrev S4096 : Shape := ⟨1, ![4096]⟩
abbrev S33554432 : Shape := ⟨1, ![33554432]⟩
abbrev S32768 : Shape := ⟨1, ![32768]⟩
abbrev S_ : Shape := ⟨0, ![]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S8192x4096, .f32⟩
  | .hbm, ⟨1, _⟩ => ⟨S4096, .i32⟩
  | .hbm, ⟨2, _⟩ => ⟨S33554432, .f32⟩
  | .hbm, ⟨3, _⟩ => ⟨S33554432, .f32⟩
  | .hbm, ⟨4, _⟩ => ⟨S8192x4096, .f32⟩
  | .local .scVector .vmem, ⟨0, _⟩ => ⟨S4096, .i32⟩
  | .local .scVector .vmem, ⟨1, _⟩ => ⟨S32768, .f32⟩
  | .local .scVector .vmem, ⟨2, _⟩ => ⟨S32768, .f32⟩
  | _, _ => ⟨S8192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_0 : BitVec 32 := 0#32
  let c1_i32 : BitVec 32 := 1#32
  let arg8 : BitVec 32 := Scf.iv c0_i32_0 c1_i32 k0_t1
  let c32768_i32 : BitVec 32 := 32768#32
  let v5 : BitVec 32 := Scalar.muli arg8 c32768_i32
  let v6 : BitVec 32 := Scalar.addi v2 v5
  ![v6.toNat]
@[reducible] def k0_t2_loop : Scf.Loop 32 :=
  let c0_i32_3 : BitVec 32 := 0#32
  let c256_i32 : BitVec 32 := 256#32
  let v7 : BitVec 32 := Scalar.addi c0_i32_3 c256_i32
  let c1_i32_4 : BitVec 32 := 1#32
  ⟨c0_i32_3, v7, c1_i32_4⟩
def k0_off2 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c16_i32 : BitVec 32 := 16#32
  let v9 : BitVec 32 := Scalar.muli arg10 c16_i32
  let v10 : Index := Scalar.indexCast v9
  ![v10.toNat]

def k0_chk1 (v13 : IVec S16 32) : Prop :=
  (∀ a x, ((![v13] : Fin 1 → IVec S16 32) a x).toNat < S32768.size a)
theorem k0_idx1_inb : ∀ (v13 : IVec S16 32) (k0_hw1 : k0_chk1 v13), ∀ a x, ((![v13] : Fin 1 → IVec S16 32) a x).toNat < S32768.size a := fun v13 k0_hw1 => k0_hw1
def k0_off3 (k0_t2 : Fin k0_t2_loop.trips) : Fin 1 → Nat :=
  let c0_i32_8 : BitVec 32 := 0#32
  let c0_i32_3 : BitVec 32 := 0#32
  let c1_i32_4 : BitVec 32 := 1#32
  let arg10 : BitVec 32 := Scf.iv c0_i32_3 c1_i32_4 k0_t2
  let c16_i32 : BitVec 32 := 16#32
  let v9 : BitVec 32 := Scalar.muli arg10 c16_i32
  let v15 : BitVec 32 := Scalar.addi c0_i32_8 v9
  let v16 : Index := Scalar.indexCast v15
  ![v16.toNat]

def k0_chk2 (v19 : IVec S16 32) : Prop :=
  (∀ a x, ((![v19] : Fin 1 → IVec S16 32) a x).toNat < S32768.size a)
theorem k0_idx2_inb : ∀ (v19 : IVec S16 32) (k0_hw2 : k0_chk2 v19), ∀ a x, ((![v19] : Fin 1 → IVec S16 32) a x).toNat < S32768.size a := fun v19 k0_hw2 => k0_hw2
def k0_off4 (k0_t2 : Fin k0_t2_loop.trips) : Fin 1 → Nat :=
  let c4096_i32_9 : BitVec 32 := 4096#32
  let c0_i32_3 : BitVec 32 := 0#32
  let c1_i32_4 : BitVec 32 := 1#32
  let arg10 : BitVec 32 := Scf.iv c0_i32_3 c1_i32_4 k0_t2
  let c16_i32 : BitVec 32 := 16#32
  let v9 : BitVec 32 := Scalar.muli arg10 c16_i32
  let v21 : BitVec 32 := Scalar.addi c4096_i32_9 v9
  let v22 : Index := Scalar.indexCast v21
  ![v22.toNat]

def k0_chk3 (v25 : IVec S16 32) : Prop :=
  (∀ a x, ((![v25] : Fin 1 → IVec S16 32) a x).toNat < S32768.size a)
theorem k0_idx3_inb : ∀ (v25 : IVec S16 32) (k0_hw3 : k0_chk3 v25), ∀ a x, ((![v25] : Fin 1 → IVec S16 32) a x).toNat < S32768.size a := fun v25 k0_hw3 => k0_hw3
def k0_off5 (k0_t2 : Fin k0_t2_loop.trips) : Fin 1 → Nat :=
  let c8192_i32_10 : BitVec 32 := 8192#32
  let c0_i32_3 : BitVec 32 := 0#32
  let c1_i32_4 : BitVec 32 := 1#32
  let arg10 : BitVec 32 := Scf.iv c0_i32_3 c1_i32_4 k0_t2
  let c16_i32 : BitVec 32 := 16#32
  let v9 : BitVec 32 := Scalar.muli arg10 c16_i32
  let v27 : BitVec 32 := Scalar.addi c8192_i32_10 v9
  let v28 : Index := Scalar.indexCast v27
  ![v28.toNat]

def k0_chk4 (v31 : IVec S16 32) : Prop :=
  (∀ a x, ((![v31] : Fin 1 → IVec S16 32) a x).toNat < S32768.size a)
theorem k0_idx4_inb : ∀ (v31 : IVec S16 32) (k0_hw4 : k0_chk4 v31), ∀ a x, ((![v31] : Fin 1 → IVec S16 32) a x).toNat < S32768.size a := fun v31 k0_hw4 => k0_hw4
def k0_off6 (k0_t2 : Fin k0_t2_loop.trips) : Fin 1 → Nat :=
  let c12288_i32_11 : BitVec 32 := 12288#32
  let c0_i32_3 : BitVec 32 := 0#32
  let c1_i32_4 : BitVec 32 := 1#32
  let arg10 : BitVec 32 := Scf.iv c0_i32_3 c1_i32_4 k0_t2
  let c16_i32 : BitVec 32 := 16#32
  let v9 : BitVec 32 := Scalar.muli arg10 c16_i32
  let v33 : BitVec 32 := Scalar.addi c12288_i32_11 v9
  let v34 : Index := Scalar.indexCast v33
  ![v34.toNat]

def k0_chk5 (v37 : IVec S16 32) : Prop :=
  (∀ a x, ((![v37] : Fin 1 → IVec S16 32) a x).toNat < S32768.size a)
theorem k0_idx5_inb : ∀ (v37 : IVec S16 32) (k0_hw5 : k0_chk5 v37), ∀ a x, ((![v37] : Fin 1 → IVec S16 32) a x).toNat < S32768.size a := fun v37 k0_hw5 => k0_hw5
def k0_off7 (k0_t2 : Fin k0_t2_loop.trips) : Fin 1 → Nat :=
  let c16384_i32_12 : BitVec 32 := 16384#32
  let c0_i32_3 : BitVec 32 := 0#32
  let c1_i32_4 : BitVec 32 := 1#32
  let arg10 : BitVec 32 := Scf.iv c0_i32_3 c1_i32_4 k0_t2
  let c16_i32 : BitVec 32 := 16#32
  let v9 : BitVec 32 := Scalar.muli arg10 c16_i32
  let v39 : BitVec 32 := Scalar.addi c16384_i32_12 v9
  let v40 : Index := Scalar.indexCast v39
  ![v40.toNat]

def k0_chk6 (v43 : IVec S16 32) : Prop :=
  (∀ a x, ((![v43] : Fin 1 → IVec S16 32) a x).toNat < S32768.size a)
theorem k0_idx6_inb : ∀ (v43 : IVec S16 32) (k0_hw6 : k0_chk6 v43), ∀ a x, ((![v43] : Fin 1 → IVec S16 32) a x).toNat < S32768.size a := fun v43 k0_hw6 => k0_hw6
def k0_off8 (k0_t2 : Fin k0_t2_loop.trips) : Fin 1 → Nat :=
  let c20480_i32_13 : BitVec 32 := 20480#32
  let c0_i32_3 : BitVec 32 := 0#32
  let c1_i32_4 : BitVec 32 := 1#32
  let arg10 : BitVec 32 := Scf.iv c0_i32_3 c1_i32_4 k0_t2
  let c16_i32 : BitVec 32 := 16#32
  let v9 : BitVec 32 := Scalar.muli arg10 c16_i32
  let v45 : BitVec 32 := Scalar.addi c20480_i32_13 v9
  let v46 : Index := Scalar.indexCast v45
  ![v46.toNat]

def k0_chk7 (v49 : IVec S16 32) : Prop :=
  (∀ a x, ((![v49] : Fin 1 → IVec S16 32) a x).toNat < S32768.size a)
theorem k0_idx7_inb : ∀ (v49 : IVec S16 32) (k0_hw7 : k0_chk7 v49), ∀ a x, ((![v49] : Fin 1 → IVec S16 32) a x).toNat < S32768.size a := fun v49 k0_hw7 => k0_hw7
def k0_off9 (k0_t2 : Fin k0_t2_loop.trips) : Fin 1 → Nat :=
  let c24576_i32_14 : BitVec 32 := 24576#32
  let c0_i32_3 : BitVec 32 := 0#32
  let c1_i32_4 : BitVec 32 := 1#32
  let arg10 : BitVec 32 := Scf.iv c0_i32_3 c1_i32_4 k0_t2
  let c16_i32 : BitVec 32 := 16#32
  let v9 : BitVec 32 := Scalar.muli arg10 c16_i32
  let v51 : BitVec 32 := Scalar.addi c24576_i32_14 v9
  let v52 : Index := Scalar.indexCast v51
  ![v52.toNat]

def k0_chk8 (v55 : IVec S16 32) : Prop :=
  (∀ a x, ((![v55] : Fin 1 → IVec S16 32) a x).toNat < S32768.size a)
theorem k0_idx8_inb : ∀ (v55 : IVec S16 32) (k0_hw8 : k0_chk8 v55), ∀ a x, ((![v55] : Fin 1 → IVec S16 32) a x).toNat < S32768.size a := fun v55 k0_hw8 => k0_hw8
def k0_off10 (k0_t2 : Fin k0_t2_loop.trips) : Fin 1 → Nat :=
  let c28672_i32_15 : BitVec 32 := 28672#32
  let c0_i32_3 : BitVec 32 := 0#32
  let c1_i32_4 : BitVec 32 := 1#32
  let arg10 : BitVec 32 := Scf.iv c0_i32_3 c1_i32_4 k0_t2
  let c16_i32 : BitVec 32 := 16#32
  let v9 : BitVec 32 := Scalar.muli arg10 c16_i32
  let v57 : BitVec 32 := Scalar.addi c28672_i32_15 v9
  let v58 : Index := Scalar.indexCast v57
  ![v58.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S8192x4096, .f32⟩
  | .hbm, ⟨21, _⟩ => ⟨S8192x4096, .i1⟩
  | .hbm, ⟨22, _⟩ => ⟨S_, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Flat.lean ====
module

public import Idealize.ShloMosaic.Shape

@[expose] public section

/-!
# Flat arrays, and the values a block of rows takes

Element numbers of a rank-one array, the values the column permutation leaves in one block of eight rows of 4096 columns, and
the statement that the first chunks of sixteen columns of such a block are done.
-/

namespace Cert.Proof

open Idealize.ShloMosaic

/-- Element `n` of a flat array of `N` elements (counted round the array, so that every number names one). -/
def el (N : ℕ) [NeZero N] (n : ℕ) : (⟨1, ![N]⟩ : Shape).Idx :=
  fun a => ⟨n % ![N] a, Nat.mod_lt _ (by rw [Fin.eq_zero a]; exact Nat.pos_of_ne_zero (NeZero.ne N))⟩

variable {N : ℕ} [NeZero N]

/-- The number of element `n` is `n` when the array is longer than `n`. -/
theorem el_val {n : ℕ} (h : n < N) : ((el N n) 0).val = n := Nat.mod_eq_of_lt h

/-- An element is the one its number names. -/
theorem eq_el (i : (⟨1, ![N]⟩ : Shape).Idx) : i = el N (i 0).val := by
  funext a
  rw [Fin.eq_zero a]
  exact Fin.ext (Nat.mod_eq_of_lt (i 0).isLt).symm

/-- Two elements of the same number are the same. -/
theorem el_ext {i j : (⟨1, ![N]⟩ : Shape).Idx} (h : (i 0).val = (j 0).val) : i = j := by
  rw [eq_el i, eq_el j, h]

/-- An element's number is below the length. -/
theorem num_lt (i : (⟨1, ![N]⟩ : Shape).Idx) : (i 0).val < N := (i 0).isLt

section Block

variable {α : Type} (x : (⟨1, ![32768]⟩ : Shape).Idx → α) (p : (⟨1, ![4096]⟩ : Shape).Idx → BitVec 32)

/-- What element `j` of a block holds once its columns are permuted: row `j / 4096` of the block, at the column the permutation
    names for column `j % 4096`. -/
def permuted (j : (⟨1, ![32768]⟩ : Shape).Idx) : α :=
  x (el 32768 ((j 0).val / 4096 * 4096 + (p (el 4096 ((j 0).val % 4096))).toNat))

/-- The first `k` chunks of sixteen columns are permuted in all rows of `g`, chunk `k` in the first `n` rows. -/
def Done (k n : ℕ) (g : (⟨1, ![32768]⟩ : Shape).Idx → α) : Prop :=
  ∀ j, (j 0).val % 4096 < 16 * k ∨ ((j 0).val % 4096 < 16 * k + 16 ∧ (j 0).val / 4096 < n) → g j = permuted x p j

variable {x p}

/-- Before the first chunk nothing is claimed. -/
theorem done_zero (g : (⟨1, ![32768]⟩ : Shape).Idx → α) : Done x p 0 0 g := fun j h => by
  rcases h with h | ⟨-, h⟩ <;> omega

/-- A chunk permuted in all eight rows is a chunk done. -/
theorem Done.next {k : ℕ} {g : (⟨1, ![32768]⟩ : Shape).Idx → α} (h : Done x p k 8 g) : Done x p (k + 1) 0 g := fun j hj => by
  have := num_lt j
  refine h j ?_
  omega

/-- With all 256 chunks done the whole block is permuted. -/
theorem Done.all {g : (⟨1, ![32768]⟩ : Shape).Idx → α} (h : Done x p 256 0 g) : g = permuted x p := funext fun j => h j (by omega)

/-- The block with chunk `k` of row `n` overwritten by the sixteen permuted words of that chunk has one more row of it done. -/
theorem Done.row {k n : ℕ} {g g' : (⟨1, ![32768]⟩ : Shape).Idx → α} (h : Done x p k n g) (hk : k < 256)
    (hin : ∀ (j : (⟨1, ![32768]⟩ : Shape).Idx) (c : ℕ), c < 16 → (j 0).val = 16 * k + 4096 * n + c →
      g' j = x (el 32768 (4096 * n + (p (el 4096 (16 * k + c))).toNat)))
    (hout : ∀ j : (⟨1, ![32768]⟩ : Shape).Idx, (j 0).val < 16 * k + 4096 * n ∨ 16 * k + 4096 * n + 16 ≤ (j 0).val → g' j = g j) :
    Done x p k (n + 1) g' := fun j hj => by
  by_cases hm : 16 * k + 4096 * n ≤ (j 0).val ∧ (j 0).val < 16 * k + 4096 * n + 16
  · rw [hin j ((j 0).val - (16 * k + 4096 * n)) (by omega) (by omega)]
    unfold permuted
    rw [show (j 0).val / 4096 = n by omega, show (j 0).val % 4096 = 16 * k + ((j 0).val - (16 * k + 4096 * n)) by omega, Nat.mul_comm]
  · rw [hout j (by omega)]
    exact h j (by omega)

end Block

end Cert.Proof

end
-- ==== Proof.Whole.lean ====
module

public import proofs.«01_k».proof.Proof.Flat

@[expose] public section

/-!
# The whole flat array, and its parts

The flat array of 8192 rows of 4096 columns with its columns permuted, the parts the SparseCores, their vector subcores and the
subcores' loop trips work on, and the array as it stands when the first blocks of a part are permuted.
-/

namespace Cert.Proof

open Idealize.ShloMosaic

/-- The flat array's shape. -/
abbrev Flat : Shape := ⟨1, ![33554432]⟩

/-- The elements one SparseCore writes: every other run of 256 rows. -/
def coreOf (c : ℕ) : Finset Flat.Idx := Finset.univ.filter fun i => (i 0).val / 1048576 % 2 = c

/-- The elements one vector subcore writes: 256 rows. -/
def pieceOf (n : ℕ) : Finset Flat.Idx := Finset.univ.filter fun i => (i 0).val / 1048576 = n

/-- The elements one trip of a vector subcore's loop writes: eight rows. -/
def blockOf (b : ℕ) : Finset Flat.Idx := Finset.univ.filter fun i => (i 0).val / 32768 = b

theorem mem_coreOf {c : ℕ} {i : Flat.Idx} : i ∈ coreOf c ↔ (i 0).val / 1048576 % 2 = c := by simp [coreOf]
theorem mem_pieceOf {n : ℕ} {i : Flat.Idx} : i ∈ pieceOf n ↔ (i 0).val / 1048576 = n := by simp [pieceOf]
theorem mem_blockOf {b : ℕ} {i : Flat.Idx} : i ∈ blockOf b ↔ (i 0).val / 32768 = b := by simp [blockOf]

/-- The two SparseCores' elements do not meet. -/
theorem cores_disjoint : ∀ c ∈ (Finset.univ : Finset (Fin 2)), ∀ c' ∈ (Finset.univ : Finset (Fin 2)), c ≠ c' →
    Disjoint (coreOf c.val) (coreOf c'.val) := fun c _ c' _ h =>
  Finset.disjoint_left.mpr fun i hi hi' => h (Fin.ext ((mem_coreOf.mp hi).symm.trans (mem_coreOf.mp hi')))

/-- The two SparseCores' elements are all. -/
theorem cores_cover : (Finset.univ : Finset (Fin 2)).biUnion (fun c => coreOf c.val) = Finset.univ :=
  Finset.eq_univ_of_forall fun i => Finset.mem_biUnion.mpr
    ⟨⟨(i 0).val / 1048576 % 2, Nat.mod_lt _ (by decide)⟩, Finset.mem_univ _, mem_coreOf.mpr rfl⟩

/-- The elements of a SparseCore's sixteen vector subcores do not meet. -/
theorem pieces_disjoint (c : ℕ) : ∀ s ∈ (Finset.univ : Finset (Fin 16)), ∀ s' ∈ (Finset.univ : Finset (Fin 16)), s ≠ s' →
    Disjoint (pieceOf (2 * s.val + c)) (pieceOf (2 * s'.val + c)) := fun s _ s' _ h =>
  Finset.disjoint_left.mpr fun i hi hi' => h (Fin.ext (by
    have h₁ := mem_pieceOf.mp hi
    have h₂ := mem_pieceOf.mp hi'
    omega))

/-- The elements of a SparseCore's sixteen vector subcores are the SparseCore's. -/
theorem pieces_cover {c : ℕ} (hc : c < 2) :
    (Finset.univ : Finset (Fin 16)).biUnion (fun s => pieceOf (2 * s.val + c)) = coreOf c := by
  ext i
  have := num_lt i
  rw [Finset.mem_biUnion, mem_coreOf]
  constructor
  · rintro ⟨s, -, hs⟩
    have := mem_pieceOf.mp hs
    omega
  · intro h
    exact ⟨⟨(i 0).val / 1048576 / 2, by omega⟩, Finset.mem_univ _, mem_pieceOf.mpr (by dsimp only; omega)⟩

/-- A trip's elements are among the subcore's. -/
theorem block_subset {n t : ℕ} (ht : t < 32) : blockOf (32 * n + t) ⊆ pieceOf n := fun i hi => by
  have := mem_blockOf.mp hi
  rw [mem_pieceOf]
  omega

section Values

variable {α : Type} (X : Flat.Idx → α) (p : (⟨1, ![4096]⟩ : Shape).Idx → BitVec 32) (f : Flat.Idx → α)

/-- The flat array with its columns permuted. -/
def target (i : Flat.Idx) : α := X (el 33554432 ((i 0).val / 4096 * 4096 + (p (el 4096 ((i 0).val % 4096))).toNat))

/-- The array with the first `t` blocks of part `n` permuted, otherwise at `f`. -/
def upto (n t : ℕ) (i : Flat.Idx) : α := if (i 0).val / 32768 < 32 * n + t then target X p i else f i

variable {X p f}

/-- With no block done, part `n` is at `f`. -/
theorem upto_zero {n : ℕ} {i : Flat.Idx} (hi : i ∈ pieceOf n) : upto X p f n 0 i = f i := if_neg (by
  have := mem_pieceOf.mp hi
  omega)

/-- With all 32 blocks done, part `n` is permuted. -/
theorem upto_all {n : ℕ} {i : Flat.Idx} (hi : i ∈ pieceOf n) : upto X p f n 32 i = target X p i := if_pos (by
  have := mem_pieceOf.mp hi
  omega)

/-- Off block `t`, one more block done changes nothing. -/
theorem upto_off {n t : ℕ} {i : Flat.Idx} (hi : i ∉ blockOf (32 * n + t)) : upto X p f n t i = upto X p f n (t + 1) i := by
  have : (i 0).val / 32768 ≠ 32 * n + t := fun h => hi (mem_blockOf.mpr h)
  unfold upto
  by_cases h : (i 0).val / 32768 < 32 * n + t
  · rw [if_pos h, if_pos (by omega)]
  · rw [if_neg h, if_neg (by omega)]

/-- On block `t`, one more block done is the permuted array. -/
theorem upto_on {n t : ℕ} {i : Flat.Idx} (hi : i ∈ blockOf (32 * n + t)) : upto X p f n (t + 1) i = target X p i := if_pos (by
  have := mem_blockOf.mp hi
  omega)

/-- Block `b` of the permuted array is block `b` of the array, permuted: element `j` of the block is element `32768 * b + j`. -/
theorem permuted_block (hp : ∀ i, (p i).toNat < 4096) {b : ℕ} (hb : b < 1024) {x : (⟨1, ![32768]⟩ : Shape).Idx → α}
    (hx : ∀ j, x j = X (el 33554432 (32768 * b + (j 0).val))) (j : (⟨1, ![32768]⟩ : Shape).Idx) {i : Flat.Idx}
    (hi : (i 0).val = 32768 * b + (j 0).val) : permuted x p j = target X p i := by
  have hj := num_lt j
  unfold permuted target
  have hq := hp (el 4096 ((j 0).val % 4096))
  rw [hx, el_val (by omega), show (i 0).val % 4096 = (j 0).val % 4096 by omega]
  refine congrArg (fun n => X (el 33554432 n)) ?_
  omega

end Values

end Cert.Proof

end
-- ==== Proof.KernelIdealRow.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Flat

@[expose] public section

/-!
# One chunk of sixteen columns

The body of the kernel's inner loop: sixteen words of the permutation are read, and for each of the block's eight rows the
sixteen words they name are gathered and stored. The row's step is stated once, for any row and any chunk.
-/

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The ghost state: the handshakes' rounds beside the transfers' counters -/

abbrev UH : Type := URounds (GSem nD τ sig) ℕ
abbrev UU : Type := UH × Counters

local notation "𝕄" => MT nD τ sig (HIx 1) (Elt F) ℕ UU ℕ
abbrev 𝒱₀ : Variants := Variants.none

-- the kernel's arrays as its body names them
local notation "xV" => (Memref.whole Cert.KernelIdeal.main_v0_scv : Memref Cert.KernelIdeal.sig Kind.scVector Space.hbm Cert.KernelIdeal.S33554432 EltTy.f32)
local notation "pV" => (Memref.whole Cert.KernelIdeal.main_arg1_scv : Memref Cert.KernelIdeal.sig Kind.scVector Space.hbm Cert.KernelIdeal.S4096 EltTy.i32)
local notation "oV" => (Memref.whole Cert.KernelIdeal.main_v1_scv : Memref Cert.KernelIdeal.sig Kind.scVector Space.hbm Cert.KernelIdeal.S33554432 EltTy.f32)
local notation "sP" => (Memref.whole Cert.KernelIdeal.cc0_scratch0 : Memref Cert.KernelIdeal.sig Kind.scVector Space.vmem Cert.KernelIdeal.S4096 EltTy.i32)
local notation "sX" => (Memref.whole Cert.KernelIdeal.cc0_scratch1 : Memref Cert.KernelIdeal.sig Kind.scVector Space.vmem Cert.KernelIdeal.S32768 EltTy.f32)
local notation "sO" => (Memref.whole Cert.KernelIdeal.cc0_scratch2 : Memref Cert.KernelIdeal.sig Kind.scVector Space.vmem Cert.KernelIdeal.S32768 EltTy.f32)

section Chunk

variable (d : Dev nD) (L : grid0.Coords)

/-- The subcore at grid coordinates `L`. -/
abbrev thr : Thread nD τ := V d ((L 0).castLE hcore0) ((L 1).castLE hsub0)

/-- Sixteen words stored at chunk `k` of row `n` of the out block: one more row of the chunk is done. -/
theorem done_store {x : S32768.Idx → Elt F .f32} {p : S4096.Idx → BitVec 32} {k n : ℕ} {off : Fin 1 → ℕ}
    (hoff : off = ![16 * k + 4096 * n]) (hk : k < 256) (inb : ∀ a, off a + S16.size a ≤ S32768.size a)
    (g : Buf (Elt F) ((thr d L).loc cc0_scratch2)) (w : S16.Idx → Elt F .f32)
    (hw : ∀ c : S16.Idx, w c = x (el 32768 (4096 * n + (p (el 4096 (16 * k + (c 0).val))).toNat))) (hg : Done x p k n g) :
    Done x p k (n + 1) (((sO).access (Rect.unit (s := S32768) off S16.size inb)).write (Elt F) g w Finset.univ) := by
  subst hoff
  refine hg.row hk (fun j c hc hj => ?_) (fun j hj => ?_)
  · have hcl : ((el 16 c) 0).val = c := el_val hc
    have he : j = ((sO).access (Rect.unit (s := S32768) ![16 * k + 4096 * n] S16.size inb)).emb (el 16 c) := by
      refine el_ext (N := 32768) ?_
      show (j 0).val = 16 * k + 4096 * n + 1 * ((el 16 c) 0).val
      omega
    conv_lhs => rw [he]
    refine (View.write_emb_of_mem (v := (sO).access (Rect.unit (s := S32768) ![16 * k + 4096 * n] S16.size inb)) (Val := Elt F) g w
      (Finset.mem_univ (el 16 c))).trans ?_
    show w (el 16 c) = _
    rw [hw, hcl]
  · refine View.write_of_not_mem (v := (sO).access (Rect.unit (s := S32768) ![16 * k + 4096 * n] S16.size inb)) g w Finset.univ ?_
    intro hm
    rw [View.setOn_univ, View.set_slice_whole, Rect.mem_set_unit] at hm
    have := hm 0
    simp at this
    omega

variable [FloatOps F]

/-- The out block with the first `k` chunks done, chunk `k` in its first `n` rows. -/
abbrev outDone (x : S32768.Idx → Elt F .f32) (p : S4096.Idx → BitVec 32) (k n : ℕ) : sProp 𝕄 :=
  iprop(∃ g : Buf (Elt F) ((thr d L).loc cc0_scratch2), ⌜Done x p k n g⌝ ∗ ((sO).view.loc (thr d L) ↦{fullShare} g))

/-- One row of a chunk: the indices are checked, the sixteen words they name gathered from the block, and the words stored at
    the chunk's place in row `n` of the out block. -/
theorem wp_row {x : Buf (Elt F) ((thr d L).loc cc0_scratch1)} {p : S4096.Idx → BitVec 32} {k : ℕ} (n : ℕ) {off : Fin 1 → ℕ}
    (hoff : off = ![16 * k + 4096 * n]) (hk : k < 256) (hn : n < 8) (inb : ∀ a, off a + S16.size a ≤ S32768.size a)
    (hp : ∀ i, (p i).toNat < 4096) (v : IVec S16 32) (hv : ∀ c : S16.Idx, (v c).toNat = 4096 * n + (p (el 4096 (16 * k + (c 0).val))).toNat)
    {chk : Prop} {dec : Decidable chk} (hchk : (∀ a c, ((![v] : Fin 1 → IVec S16 32) a c).toNat < S32768.size a) → chk)
    {hidx : chk → ∀ a c, ((![v] : Fin 1 → IVec S16 32) a c).toNat < S32768.size a}
    {hl : (sX).view.Loads} {hl' : (sO).view.LoadsAt (Rect.unit (s := S32768) off S16.size inb).toLoadRect}
    {hs : ((sO).access (Rect.unit (s := S32768) off S16.size inb)).Stores Finset.univ}
    {hm : (Finset.univ : Finset (Rect.unit (s := S32768) off S16.size inb).shape.Idx) = Finset.univ ∨ ∀ a, (Rect.unit (s := S32768) off S16.size inb).stride a = 1}
    {A : Type} {Q : A → sProp 𝕄} {kk : Vec F S16 .f32 → PUnit → Prog (TpuEff nD τ sig (Elt F) Λ₀ (thr d L).2) A} :
    iprop(((sX).view.loc (thr d L) ↦{fullShare} x) ∗ outDone d L x p k n)
      ⊢ iprop((∀ w : Vec F S16 .f32, iprop(((sX).view.loc (thr d L) ↦{fullShare} x) ∗ outDone d L x p k (n + 1))
          -∗ wp frame (wpE (defs₀ (F := F)) 𝒱₀ (thr d L) none) Set.univ (kk w ⟨⟩) Q)
        -∗ wp frame (wpE (defs₀ (F := F)) 𝒱₀ (thr d L) none) Set.univ
          (.op (TpuEff.assume chk dec) fun h => SparseCore.vectorLoadIdx sX ![v] (hidx h.down) hl >>= fun w =>
            .op (.load sO (Rect.unit (s := S32768) off S16.size inb).toLoadRect hl') fun _ =>
              .op (.store sO (Rect.unit (s := S32768) off S16.size inb) w Finset.univ hs hm) (kk w)) Q) := by
  have hin : ∀ a c, ((![v] : Fin 1 → IVec S16 32) a c).toNat < S32768.size a := fun a c => by
    rw [Fin.eq_zero a]
    show (v c).toNat < 32768
    have := hp (el 4096 (16 * k + (c 0).val))
    rw [hv]; omega
  rw [wp_assume_of _ _ _ _ (hchk hin)]
  iintro ⟨Hx, %g, %hg, Ho⟩ Hk
  iapply (SparseCore.wp_vectorLoadIdx 𝒱₀ (thr d L) none Set.univ (base := sX) (S := Finset.univ) (q := fullShare) (Finset.subset_univ _)) $$ Hx
  iintro Hx
  iapply (wp_load 𝒱₀ (thr d L) none Set.univ (m := sO) (S := Finset.univ) (Finset.subset_univ _)) $$ Ho
  iintro Ho
  iapply (wp_store 𝒱₀ (thr d L) none Set.univ (m := sO) (r := Rect.unit (s := S32768) off S16.size inb) (Mk := Finset.univ)
    (S := Finset.univ) (f := g) (Finset.subset_univ _)) $$ Ho
  iintro Ho
  iapply Hk
  isplitl [Hx]; · iexact Hx
  iexists _
  isplitr
  swap; · iexact Ho
  ipureintro
  refine done_store d L hoff hk inb g _ (fun c => ?_) hg
  rw [Memref.read_access_whole]
  refine congrArg x (el_ext (N := 32768) ?_)
  show (v c).toNat = _
  have := hp (el 4096 (16 * k + (c 0).val))
  rw [el_val (by omega), hv]

/-- The gather's indices in row `n`: the permutation's word and the row's first element, added as words, are their sum. -/
theorem idx_val {p : S4096.Idx → BitVec 32} (hp : ∀ i, (p i).toNat < 4096) {k : ℕ} (n : ℕ) (hn : n < 8) (b : BitVec 32)
    (hb : b.toNat = 4096 * n) (v : Vec F S16 .i32) (hv : ∀ c : S16.Idx, v c = p (el 4096 (16 * k + (c 0).val))) (c : S16.Idx) :
    (addi (v : IVec S16 32) (broadcast S16 b) c).toNat = 4096 * n + (p (el 4096 (16 * k + (c 0).val))).toNat := by
  show (v c + b).toNat = _
  have := hp (el 4096 (16 * k + (c 0).val))
  rw [hv, BitVec.toNat_add, hb, Nat.mod_eq_of_lt (by omega), Nat.add_comm]

/-- What the inner loop's body holds before trip `k`: the permutation, the block, and the out block with `k` chunks done. -/
abbrev chunkInv (x : Buf (Elt F) ((thr d L).loc cc0_scratch1)) (p : Buf (Elt F) ((thr d L).loc cc0_scratch0)) (k : ℕ) : sProp 𝕄 :=
  iprop(((sP).view.loc (thr d L) ↦{fullShare} p) ∗ ((sX).view.loc (thr d L) ↦{fullShare} x) ∗ outDone d L x p k 0)

set_option maxHeartbeats 1000000 in
/-- One trip of the inner loop permutes one chunk of sixteen columns in all eight rows. -/
theorem chunk_body (x : Buf (Elt F) ((thr d L).loc cc0_scratch1)) (p : Buf (Elt F) ((thr d L).loc cc0_scratch0))
    (hp : ∀ i : S4096.Idx, (p i : BitVec 32).toNat < 4096) (k : Fin k0_t2_loop.trips) (a : BitVec 32) :
    chunkInv d L x p k.val
      ⊢ wp frame (wpE (defs₀ (F := F)) 𝒱₀ (thr d L) none) Set.univ
          (k0_t2_body L xV (Memref.isWhole_whole _) pV (Memref.isWhole_whole _) oV (Memref.isWhole_whole _)
            sP (Memref.isWhole_whole _) sX (Memref.isWhole_whole _) sO (Memref.isWhole_whole _) cc0_scoped0 cc0_scoped1 cc0_scoped2 k a)
          fun _ => chunkInv d L x p (k.val + 1) := by
  have hk : k.val < 256 := lt_of_lt_of_le k.isLt k0_t2_abs.2.1
  unfold k0_t2_body
  simp only [k0_part1_eq_skeleton]; unfold k0_part1_skel
  simp only [Prog.lift, Prog.bind_op, Prog.bind_ret, Prog.pure_eq_ret, Prog.bind_assoc]
  iintro ⟨Hp, Hx, Ho⟩
  iapply (wp_load 𝒱₀ (thr d L) none Set.univ (m := sP) (S := Finset.univ) (Finset.subset_univ _)) $$ Hp
  iintro Hp
  have hv : ∀ c : S16.Idx, (sP).view.readAt (Elt F) (Rect.unit (s := S4096) (k0_off2 k) S16.size (k0_off2_inb k)).toLoadRect p c
      = p (el 4096 (16 * k.val + (c 0).val)) := fun c => congrArg p (el_ext (N := 4096) (by
    have hc : (c 0).val < 16 := num_lt c
    rw [el_val (by omega)]
    show (k0_off2 k) 0 + 1 * (c 0).val = _
    rw [k0_off2_eq]
    simp))
  ihave H := (show iprop(((sX).view.loc (thr d L) ↦{fullShare} x) ∗ outDone d L x p k.val 0) ⊢ _ from .rfl) $$ [Hx Ho]
  · isplitl [Hx] <;> iassumption
  iapply (wp_row d L 0 (k0_off3_eq k) hk (by omega) _ hp _ (idx_val hp 0 (by omega) _ rfl _ hv) (fun h => h)) $$ H; iintro %_ H
  iapply (wp_row d L 1 (k0_off4_eq k) hk (by omega) _ hp _ (idx_val hp 1 (by omega) _ rfl _ hv) (fun h => h)) $$ H; iintro %_ H
  iapply (wp_row d L 2 (k0_off5_eq k) hk (by omega) _ hp _ (idx_val hp 2 (by omega) _ rfl _ hv) (fun h => h)) $$ H; iintro %_ H
  iapply (wp_row d L 3 (k0_off6_eq k) hk (by omega) _ hp _ (idx_val hp 3 (by omega) _ rfl _ hv) (fun h => h)) $$ H; iintro %_ H
  iapply (wp_row d L 4 (k0_off7_eq k) hk (by omega) _ hp _ (idx_val hp 4 (by omega) _ rfl _ hv) (fun h => h)) $$ H; iintro %_ H
  iapply (wp_row d L 5 (k0_off8_eq k) hk (by omega) _ hp _ (idx_val hp 5 (by omega) _ rfl _ hv) (fun h => h)) $$ H; iintro %_ H
  iapply (wp_row d L 6 (k0_off9_eq k) hk (by omega) _ hp _ (idx_val hp 6 (by omega) _ rfl _ hv) (fun h => h)) $$ H; iintro %_ H
  iapply (wp_row d L 7 (k0_off10_eq k) hk (by omega) _ hp _ (idx_val hp 7 (by omega) _ rfl _ hv) (fun h => h)) $$ H; iintro %_ H
  icases H with ⟨Hx, %g, %hg, Ho⟩
  rw [wp_ret]; imodintro
  isplitl [Hp]; · iexact Hp
  isplitl [Hx]; · iexact Hx
  iexists g; isplitr
  · ipureintro; exact hg.next
  · iexact Ho

end Chunk

end Cert.Proof.KernelIdeal

end
-- ==== Proof.KernelIdealTile.lean ====
module

public import proofs.«01_k».proof.Proof.KernelIdealRow
public import proofs.«01_k».proof.Proof.Whole

@[expose] public section

/-!
# One vector subcore

The kernel's body on one vector subcore: the permutation is fetched, and each of 32 trips fetches a block of eight rows, permutes
its columns and writes it out. The 256 rows the subcore writes end as the array with its columns permuted.
-/

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S33554432 EltTy.f32)
local notation "pV" => (Memref.whole Cert.KernelIdeal.main_arg1_scv : Memref Cert.KernelIdeal.sig Kind.scVector Space.hbm Cert.KernelIdeal.S4096 EltTy.i32)
local notation "oV" => (Memref.whole Cert.KernelIdeal.main_v1_scv : Memref Cert.KernelIdeal.sig Kind.scVector Space.hbm Cert.KernelIdeal.S33554432 EltTy.f32)
local notation "sP" => (Memref.whole Cert.KernelIdeal.cc0_scratch0 : Memref Cert.KernelIdeal.sig Kind.scVector Space.vmem Cert.KernelIdeal.S4096 EltTy.i32)
local notation "sX" => (Memref.whole Cert.KernelIdeal.cc0_scratch1 : Memref Cert.KernelIdeal.sig Kind.scVector Space.vmem Cert.KernelIdeal.S32768 EltTy.f32)
local notation "sO" => (Memref.whole Cert.KernelIdeal.cc0_scratch2 : Memref Cert.KernelIdeal.sig Kind.scVector Space.vmem Cert.KernelIdeal.S32768 EltTy.f32)

/-- The outer loop makes 32 trips, the inner loop 256. -/
theorem trips_outer : k0_t1_loop.trips = 32 := by decide
theorem trips_inner : k0_t2_loop.trips = 256 := by decide

section Tile

variable (d : Dev nD) (L : grid0.Coords)

/-- The part of the flat array the subcore writes. -/
abbrev part : ℕ := 2 * (L 1).val + (L 0).val

/-- The block trip `t` fetches and writes, as the body spells it. -/
abbrev blk (t : Fin k0_t1_loop.trips) : Rect S33554432 := Rect.unit (s := S33554432) (k0_off1 L t) S32768.size (k0_off1_inb L t)
abbrev xBlk (t : Fin k0_t1_loop.trips) : Memref sig .scVector .hbm S32768 .f32 := (xV).slice (blk L t) (fun _ => rfl)
abbrev oBlk (t : Fin k0_t1_loop.trips) : Memref sig .scVector .hbm S32768 .f32 := (oV).slice (blk L t) (fun _ => rfl)

/-- The block's first element. -/
theorem off_blk (t : Fin k0_t1_loop.trips) : k0_off1 L t = ![32768 * (32 * part L + t.val)] := by
  rw [k0_off1_eq]
  congr 1
  show _ = 32768 * (32 * (2 * (L 1).val + (L 0).val) + t.val)
  omega

theorem part_lt : part L < 32 := by
  have h₀ : (L 0).val < 2 := (L 0).isLt
  have h₁ : (L 1).val < 16 := (L 1).isLt
  show 2 * (L 1).val + (L 0).val < 32
  omega

/-- The elements of the block, as a set. -/
theorem set_oBlk (t : Fin k0_t1_loop.trips) : (oBlk L t).view.set = blockOf (32 * part L + t.val) := by
  show ((View.whole (main_v1_scv : Ref sig .scVector)).slice (blk L t)).set = _
  ext i
  rw [View.set_slice_whole, Rect.mem_set_unit, mem_blockOf, off_blk]
  constructor
  · intro h
    have := h 0
    simp at this
    omega
  · intro h a
    rw [Fin.eq_zero a]
    simp
    omega

/-- Element `j` of the block is element `32768 * b + j` of the array. -/
theorem emb_blk (t : Fin k0_t1_loop.trips) (j : S32768.Idx) :
    (((oBlk L t).view.emb j : S33554432.Idx) 0).val = 32768 * (32 * part L + t.val) + (j 0).val := by
  show k0_off1 L t 0 + 1 * (j 0).val = _
  rw [off_blk]
  simp

variable [FloatOps F]

/-- What a trip of the outer loop finds: the evidence for its waits, the array at a share, the permutation in the subcore's memory,
    the two block buffers, the part with the first `t` blocks permuted, the copies' semaphores at zero, and what the subcore owes. -/
abbrev blockInv (X f : S33554432.Idx → Elt F .f32) (p : Buf (Elt F) ((thr d L).loc cc0_scratch0)) (q : PosShare TreeShare)
    (O : CellTallies nD τ sig (HIx 1)) (t : ℕ) : sProp 𝕄 :=
  iprop(Transfers.MayWaits (thr d L) (none : HIx 1) O
    ∗ ((xV).view.loc (thr d L) ↦{q} X)
    ∗ ((sP).view.loc (thr d L) ↦{fullShare} p)
    ∗ (∃ g, (sX).view.loc (thr d L) ↦{fullShare} g)
    ∗ (∃ g, (sO).view.loc (thr d L) ↦{fullShare} g)
    ∗ ((oV).view.loc (thr d L) ↦[pieceOf (part L)]{fullShare} upto X p f (part L) t)
    ∗ semVal (thr d L, SemLoc.dma cc0_scoped1.sem) 0 ∗ semVal (thr d L, SemLoc.dma cc0_scoped2.sem) 0
    ∗ ∃ W', owes (thr d L) O W')

/-- The block trip `t` fetches, as values. -/
def xBlkVal (X : S33554432.Idx → Elt F .f32) (t : Fin k0_t1_loop.trips) : S32768.Idx → Elt F .f32 := (xBlk L t).view.read (Elt F) X

/-- A block buffer written whole holds what was written. -/
theorem fetched (g : Buf (Elt F) ((thr d L).loc cc0_scratch1)) (w : S32768.Idx → Elt F .f32) :
    ((sX).view.loc (thr d L) ↦{fullShare} (sX).view.write (Elt F) g w Finset.univ : sProp 𝕄) = ((sX).view.loc (thr d L) ↦{fullShare} w) := by
  rw [View.write_whole_univ]

/-- Element `j` of the block fetched is element `32768 * b + j` of the array. -/
theorem xBlkVal_apply (X : S33554432.Idx → Elt F .f32) (t : Fin k0_t1_loop.trips) (ht : t.val < 32) (j : S32768.Idx) :
    xBlkVal L X t j = X (el 33554432 (32768 * (32 * part L + t.val) + (j 0).val)) := by
  have hj := num_lt (N := 32768) j
  have := part_lt L
  have he : ((oBlk L t).view.emb j : S33554432.Idx) = el 33554432 (32768 * (32 * part L + t.val) + (j 0).val) :=
    el_ext (N := 33554432) (by rw [el_val (by omega)]; exact emb_blk L t j)
  exact congrArg X he

/-- The block written out, permuted, is the array with one more block permuted. -/
theorem block_written (X f : S33554432.Idx → Elt F .f32) (p : S4096.Idx → BitVec 32) (hp : ∀ i, (p i).toNat < 4096)
    (t : Fin k0_t1_loop.trips) {g w : S32768.Idx → Elt F .f32} (hg : g = permuted (xBlkVal L X t) p) (hw : w = g) (i : S33554432.Idx)
    (hi : i ∈ (oBlk L t).view.set) :
    (oBlk L t).view.writes (Elt F) (upto X p f (part L) t.val) [⟨Rect.whole S32768, w⟩] i = upto X p f (part L) (t.val + 1) i := by
  have ht : t.val < 32 := lt_of_lt_of_le t.isLt k0_t1_abs.2.1
  have hL := part_lt L
  rw [upto_on (by rw [← set_oBlk]; exact hi)]
  obtain ⟨y, hy⟩ : ∃ y, (oBlk L t).view.emb y = i := by
    simpa [View.set] using hi
  have he : ((oBlk L t).view.slice (Rect.whole S32768)).emb y = i := by
    rw [← hy]
    exact congrArg (oBlk L t).view.emb (Rect.emb_whole_apply S32768 y)
  have h := View.write_emb_of_mem (v := (oBlk L t).view.slice (Rect.whole S32768)) (Val := Elt F) (upto X p f (part L) t.val) w
    (Finset.mem_univ y)
  rw [he] at h
  rw [View.writes_singleton]
  refine h.trans ?_
  show w y = _
  rw [hw, hg]
  refine permuted_block hp (by omega) (xBlkVal_apply L X t ht) y ?_
  rw [← hy]
  exact emb_blk L t y

/-- The block held as written is the block held with one more block permuted. -/
theorem pts_written (X f : S33554432.Idx → Elt F .f32) (p : S4096.Idx → BitVec 32) (hp : ∀ i, (p i).toNat < 4096)
    (t : Fin k0_t1_loop.trips) {g w : S32768.Idx → Elt F .f32} (hg : g = permuted (xBlkVal L X t) p) (hw : w = g) :
    ((oBlk L t).view.loc (thr d L) ↦[(oBlk L t).view.set]{fullShare}
        (oBlk L t).view.writes (Elt F) (upto X p f (part L) t.val) [⟨Rect.whole S32768, w⟩] : sProp 𝕄)
      = ((oV).view.loc (thr d L) ↦[blockOf (32 * part L + t.val)]{fullShare} upto X p f (part L) (t.val + 1)) := by
  refine (pointsTo_congr (g := upto X p f (part L) (t.val + 1)) (block_written L X f p hp t hg hw)).trans ?_
  rw [set_oBlk]

/-- The rest of the part is as it was. -/
theorem pts_rest (X f : S33554432.Idx → Elt F .f32) (p : S4096.Idx → BitVec 32) (t : Fin k0_t1_loop.trips) :
    ((oV).view.loc (thr d L) ↦[pieceOf (part L) \ blockOf (32 * part L + t.val)]{fullShare} upto X p f (part L) t.val : sProp 𝕄)
      = ((oV).view.loc (thr d L) ↦[pieceOf (part L) \ blockOf (32 * part L + t.val)]{fullShare} upto X p f (part L) (t.val + 1)) :=
  pointsTo_congr fun _ hi => upto_off (Finset.mem_sdiff.mp hi).2

/-- A trip of the outer loop permutes one more block. -/
theorem block_trip (X f : S33554432.Idx → Elt F .f32) (p : Buf (Elt F) ((thr d L).loc cc0_scratch0))
    (hp : ∀ i : S4096.Idx, (p i : BitVec 32).toNat < 4096) (q : PosShare TreeShare)
    (O : CellTallies nD τ sig (HIx 1)) (t : Fin k0_t1_loop.trips) (a : BitVec 32) :
    blockInv d L X f p q O t.val
      ⊢ wp frame (wpE (defs₀ (F := F)) 𝒱₀ (thr d L) none) Set.univ
          (k0_t1_body L xV (Memref.isWhole_whole _) pV (Memref.isWhole_whole _) oV (Memref.isWhole_whole _)
            sP (Memref.isWhole_whole _) sX (Memref.isWhole_whole _) sO (Memref.isWhole_whole _) cc0_scoped0 cc0_scoped1 cc0_scoped2 t a)
          fun _ => blockInv d L X f p q O (t.val + 1) := by
  have ht : t.val < 32 := lt_of_lt_of_le t.isLt k0_t1_abs.2.1
  unfold k0_t1_body
  iintro ⟨Hmw, Hx, Hp, ⟨%gx, Hsx⟩, ⟨%go, Hso⟩, Ho, Hs1, Hs2, %W', HO⟩
  ihave Ho' := (pointsTo_split_subset (block_subset (n := part L) ht)).1 $$ Ho
  icases Ho' with ⟨Hb, Hrest⟩
  ihave Hb' := (Entails.of_eq (show ((oV).view.loc (thr d L) ↦[blockOf (32 * part L + t.val)]{fullShare} upto X p f (part L) t.val : sProp 𝕄)
      = ((oBlk L t).view.loc (thr d L) ↦[(oBlk L t).view.set]{fullShare} upto X p f (part L) t.val) by rw [set_oBlk])) $$ Hb
  sl_exec (disch := exact View.amount_pos _ _ (show 0 < S32768.numel by decide))
  ihave Hsx' := (Entails.of_eq (fetched d L gx _)) $$ Hsx
  sl_for (fun k _ => chunkInv d L (xBlkVal L X t) p k) $$ [Hp Hsx' Hso]
  case region =>
    intro k acc
    exact chunk_body d L (xBlkVal L X t) p hp k acc
  · isplitl [Hp]; · iexact Hp
    isplitl [Hsx']
    · iexact Hsx'
    iexists go; isplitr
    · ipureintro; exact done_zero go
    · iexact Hso
  iintro %_ ⟨Hp, Hsx, %g, %hg, Hso⟩
  have hg' : g = permuted (xBlkVal L X t) p := Done.all (by rw [← trips_inner]; exact hg)
  sl_exec (disch := exact View.amount_pos _ _ (show 0 < S32768.numel by decide))
  sl_step
  isplitl [Hmw]; · iexact Hmw
  isplitl [Hx]; · iexact Hx
  isplitl [Hp]; · iexact Hp
  isplitl [Hsx]; · iexists _; iexact Hsx
  isplitl [Hso]; · iexists _; iexact Hso
  isplitl [Hb' Hrest]
  · iapply (pointsTo_split_subset (block_subset (n := part L) ht)).2
    isplitl [Hb']
    · iapply (Entails.of_eq (pts_written d L X f p hp t hg' (w := block_trip.sl.dma0_1 d L g) rfl)) $$ Hb'
    · iapply (Entails.of_eq (pts_rest d L X f p t)) $$ Hrest
  isplitl [Hs1]; · iexact Hs1
  isplitl [Hs2]; · iexact Hs2
  iexists _; iexact HO

end Tile

end Cert.Proof.KernelIdeal

end
-- ==== Proof.KernelIdealBody.lean ====
module

public import proofs.«01_k».proof.Proof.KernelIdealTile

@[expose] public section

/-!
# The kernel's body on one vector subcore

The program as the launch sees it, what a vector subcore is given, and its task: from the flat array and the permutation at shares
and its own part of the result, the part with the columns permuted.
-/

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S33554432 EltTy.f32)
local notation "pV" => (Memref.whole Cert.KernelIdeal.main_arg1_scv : Memref Cert.KernelIdeal.sig Kind.scVector Space.hbm Cert.KernelIdeal.S4096 EltTy.i32)
local notation "oV" => (Memref.whole Cert.KernelIdeal.main_v1_scv : Memref Cert.KernelIdeal.sig Kind.scVector Space.hbm Cert.KernelIdeal.S33554432 EltTy.f32)
local notation "sP" => (Memref.whole Cert.KernelIdeal.cc0_scratch0 : Memref Cert.KernelIdeal.sig Kind.scVector Space.vmem Cert.KernelIdeal.S4096 EltTy.i32)
local notation "sX" => (Memref.whole Cert.KernelIdeal.cc0_scratch1 : Memref Cert.KernelIdeal.sig Kind.scVector Space.vmem Cert.KernelIdeal.S32768 EltTy.f32)
local notation "sO" => (Memref.whole Cert.KernelIdeal.cc0_scratch2 : Memref Cert.KernelIdeal.sig Kind.scVector Space.vmem Cert.KernelIdeal.S32768 EltTy.f32)

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

/-- The flat array, the permutation and the flat result, as locations of device `d`. -/
abbrev xLoc (d : Dev nD) : Loc nD τ sig := (SparseCore.T d).loc main_v0
abbrev pLoc (d : Dev nD) : Loc nD τ sig := (SparseCore.T d).loc main_arg1
abbrev oLoc (d : Dev nD) : Loc nD τ sig := (SparseCore.T d).loc main_v1

/-- The flat array at share `q`, the permutation at share `q`, and elements `S` of the flat result. -/
abbrev xPts (d : Dev nD) (q : PosShare TreeShare) (X : S33554432.Idx → Elt F .f32) : sProp 𝕄 := xLoc d ↦{q} X
abbrev pPts (d : Dev nD) (q : PosShare TreeShare) (p : S4096.Idx → BitVec 32) : sProp 𝕄 := pLoc d ↦{q} p
abbrev oPts (d : Dev nD) (S : Finset S33554432.Idx) (f : S33554432.Idx → Elt F .f32) : sProp 𝕄 := oLoc d ↦[S]{fullShare} f

section Body

variable (d : Dev nD) (L : grid0.Coords)

/-- The copies' three semaphores. -/
abbrev cell (b : DmaSems sig S_) : GSem nD τ sig := (thr d L, .dma b.sem)

/-- The subcore's own semaphores are the copies' three together with the rest. -/
theorem ownSems0_V :
    (ownSems0 (thr d L) : sProp 𝕄)
      = iprop(semVal (cell d L cc0_scoped0) 0 ∗ semVal (cell d L cc0_scoped1) 0 ∗ semVal (cell d L cc0_scoped2) 0
          ∗ bigSep ((((ownCells (thr d L)).erase (cell d L cc0_scoped0)).erase (cell d L cc0_scoped1)).erase (cell d L cc0_scoped2))
              fun g => semVal g 0) := by
  unfold SparseCore.Cfg.ownSems0
  rw [SparseCore.bigSep_erase' ((mem_ownCells (g := cell d L cc0_scoped0)).mpr ⟨rfl, by
      show (SemLoc.dma cc0_scoped0.sem : SemLoc sig).isScoped .scVector = true; decide⟩),
    SparseCore.bigSep_erase' (Finset.mem_erase.mpr ⟨by simp [cell]; decide, (mem_ownCells (g := cell d L cc0_scoped1)).mpr ⟨rfl, by
      show (SemLoc.dma cc0_scoped1.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scoped2)).mpr ⟨rfl, by show (SemLoc.dma cc0_scoped2.sem : SemLoc sig).isScoped .scVector = true; decide⟩⟩⟩)]

/-- A buffer of the subcore's own memory, among the device's. -/
abbrev own (b : Ref sig .scVector) : DevRef τ sig := (thr d L).2.devRef b

/-- The subcore's own buffers are its three scratch buffers together with the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (thr d L).2).erase (own d L cc0_scratch0)).erase (own d L cc0_scratch1)).erase (own d L cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := own d L cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d L).2) (b := own d L cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := (thr d L).2) (b := own d L cc0_scratch2) rfl⟩⟩)]

variable [FloatOps F]

/-- The permutation's buffer written whole holds what was written. -/
theorem fetched_perm (g : Buf (Elt F) ((thr d L).loc cc0_scratch0)) (w : S4096.Idx → Elt F .i32) :
    ((sP).view.loc (thr d L) ↦{fullShare} (sP).view.write (Elt F) g w Finset.univ : sProp 𝕄) = ((sP).view.loc (thr d L) ↦{fullShare} w) := by
  rw [View.write_whole_univ]

/-- The task of the vector subcore at `L`: with the flat array at `X` and the permutation at `p`, in range, the subcore's part of the
    result ends at the permuted array. -/
theorem tile_body (X f : S33554432.Idx → Elt F .f32) (p : S4096.Idx → BitVec 32) (hp : ∀ i, (p i).toNat < 4096) (q q' : PosShare TreeShare)
    (O : CellTallies nD τ sig (HIx 1)) (W : Waits sig (HIx 1)) (hO : ∀ g, O g none = 0) :
    iprop(levAts (K (F := F)).L (K (F := F)).lev ∗ emp
        ∗ (xPts d q X ∗ pPts d q' p ∗ oPts d (pieceOf (part L)) f)
        ∗ scopedBufs (thr d L) ∗ scopedSems0 (thr d L) ∗ owes (thr d L) O W)
      ⊢ wp frame (wpE (defs₀ (F := F)) 𝒱₀ (thr d L) none) Set.univ
          (cc0__body L xV (Memref.isWhole_whole _) pV (Memref.isWhole_whole _) oV (Memref.isWhole_whole _)
            sP (Memref.isWhole_whole _) sX (Memref.isWhole_whole _) sO (Memref.isWhole_whole _) cc0_scoped0 cc0_scoped1 cc0_scoped2)
          fun _ => iprop((xPts d q X ∗ pPts d q' p ∗ oPts d (pieceOf (part L)) (target X p))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d ((L 0).castLE hcore0) ((L 1).castLE hsub0),
    SparseCore.Cfg.scopedSems0_V (Val := Elt F) d ((L 0).castLE hcore0) ((L 1).castLE hsub0), ownSems0_V, ownBufs_V]
  simp only [cc0__body_eq_skeleton]; unfold cc0__body_skel
  iintro ⟨#Hlv, -, ⟨Hx, Hp, Ho⟩, ⟨⟨%fp, Hsp⟩, Hsx, Hso, Hbufs⟩, ⟨Hs0, Hs1, Hs2, Hsems⟩, HO⟩
  ihave Hmw := (show levAts (K (F := F)).L (K (F := F)).lev ⊢ Transfers.MayWaits (thr d L) (none : HIx 1) O from
    (K (F := F)).mayWaits_none (thr := thr d L) hO) $$ Hlv
  ihave Hp' := (show pPts d q' p ⊢ ((pV).view.loc (thr d L) ↦{q'} p) from .rfl) $$ Hp
  ihave Hsp' := (show ((thr d L).loc cc0_scratch0 ↦{fullShare} fp : sProp 𝕄) ⊢ ((sP).view.loc (thr d L) ↦{fullShare} fp) from .rfl) $$ Hsp
  sl_exec
  ihave Hsp := (Entails.of_eq (fetched_perm d L fp _)) $$ Hsp'
  sl_for (fun k _ => blockInv d L X f p q O k) $$ [Hmw Hx Hsp Hsx Hso Ho Hs1 Hs2 HO]
  case region =>
    intro k acc
    exact block_trip d L X f p hp q O k acc
  · isplitl [Hmw]; · iexact Hmw
    isplitl [Hx]; · iexact Hx
    isplitl [Hsp]; · iexact Hsp
    isplitl [Hsx]; · iexact Hsx
    isplitl [Hso]; · iexact Hso
    isplitl [Ho]
    · iapply (Entails.of_eq (pointsTo_congr (g := upto X p f (part L) 0) fun i hi => (upto_zero hi).symm)) $$ Ho
    isplitl [Hs1]; · iexact Hs1
    isplitl [Hs2]; · iexact Hs2
    iexists _; iexact HO
  iintro %_ ⟨-, Hx, Hsp, Hsx, Hso, Ho, Hs1, Hs2, %W', HO⟩
  sl_step
  isplitl [Hx Hp' Ho]
  · isplitl [Hx]; · iexact Hx
    isplitl [Hp']; · iexact Hp'
    iapply (Entails.of_eq (pointsTo_congr (f := upto X p f (part L) k0_t1_loop.trips) (g := target X p) fun i hi => by
      rw [trips_outer]; exact upto_all hi)) $$ Ho
  isplitl [Hsp Hsx Hso Hbufs]
  · isplitl [Hsp]; · iexists _; iexact Hsp
    isplitl [Hsx]; · iexact Hsx
    isplitl [Hso]; · iexact Hso
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro; intro w _
    rcases w.2 with _ | r
    · exact .inr (.inl rfl)
    · exact .inr (.inr (congrArg some (Subsingleton.elim r 0)))
  · iexact HO

end Body

end Cert.Proof.KernelIdeal

end
-- ==== Proof.KernelIdealLaunch.lean ====
module

public import proofs.«01_k».proof.Proof.KernelIdealBody

@[expose] public section

/-!
# The launch

The kernel's one call shares the flat array and the permutation among the vector subcores and gives each its part of the result;
`@main` flattens the argument before it and restores the shape after it. The program's run ends with the result at the argument with
its columns permuted, and the arguments as they were.
-/

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S33554432 EltTy.f32)
local notation "pV" => (Memref.whole Cert.KernelIdeal.main_arg1_scv : Memref Cert.KernelIdeal.sig Kind.scVector Space.hbm Cert.KernelIdeal.S4096 EltTy.i32)
local notation "oV" => (Memref.whole Cert.KernelIdeal.main_v1_scv : Memref Cert.KernelIdeal.sig Kind.scVector Space.hbm Cert.KernelIdeal.S33554432 EltTy.f32)
local notation "sP" => (Memref.whole Cert.KernelIdeal.cc0_scratch0 : Memref Cert.KernelIdeal.sig Kind.scVector Space.vmem Cert.KernelIdeal.S4096 EltTy.i32)
local notation "sX" => (Memref.whole Cert.KernelIdeal.cc0_scratch1 : Memref Cert.KernelIdeal.sig Kind.scVector Space.vmem Cert.KernelIdeal.S32768 EltTy.f32)
local notation "sO" => (Memref.whole Cert.KernelIdeal.cc0_scratch2 : Memref Cert.KernelIdeal.sig Kind.scVector Space.vmem Cert.KernelIdeal.S32768 EltTy.f32)

variable (m : (ℓ : Loc nD τ sig) → Buf (Elt F) ℓ) (ρ : Dev nD → PrngReg)

abbrev EH : Emb UH (MT nD τ sig (HIx 1) (Elt F) ℕ UU ℕ) := embL

/-- The argument and the result, as locations of device `d`. -/
abbrev aLoc (d : Dev nD) : Loc nD τ sig := (SparseCore.T d).loc main_arg0
abbrev rLoc (d : Dev nD) : Loc nD τ sig := (SparseCore.T d).loc main_v2

/-- The permutation at launch. -/
abbrev perm (d : Dev nD) : S4096.Idx → BitVec 32 := m (pLoc d)

/-- The argument, flat. -/
def flat (d : Dev nD) : S33554432.Idx → Elt F .f32 :=
  shapeCast S33554432 (m (aLoc d) : S8192x4096.Idx → Elt F .f32) shapeCasts_S8192x4096_S33554432

/-- The flat result: the flat argument with its columns permuted. -/
abbrev flatOut (d : Dev nD) : S33554432.Idx → Elt F .f32 := target (flat m d) (perm m d)

/-- The result: the flat result in the argument's shape. -/
def out (d : Dev nD) : S8192x4096.Idx → Elt F .f32 := shapeCast S8192x4096 (flatOut m d) shapeCasts_S33554432_S8192x4096

theorem nCore_two : (K (F := F)).nCore 0 = 2 := rfl
theorem nSub_sixteen : (K (F := F)).nSub 0 = 16 := rfl

/-! ## What the handshakes carry -/

/-- The shares of the arrays every subcore reads: a SparseCore's, and one of its subcores'. -/
abbrev qC (c : Fin 2) : PosShare TreeShare := Transfers.dealOf fullShare Finset.univ c
abbrev qT (c : Fin 2) (i : Fin 16) : PosShare TreeShare := Transfers.dealOf (qC c) Finset.univ i

/-- The arrays whole; a SparseCore's share of them, with its elements of the result at `g`; a vector subcore's. -/
abbrev atAll (d : Dev nD) (g : S33554432.Idx → Elt F .f32) : sProp 𝕄 :=
  iprop(xPts d fullShare (flat m d) ∗ pPts d fullShare (perm m d) ∗ oPts d Finset.univ g)
abbrev atCore (d : Dev nD) (c : Fin 2) (g : S33554432.Idx → Elt F .f32) : sProp 𝕄 :=
  iprop(xPts d (qC c) (flat m d) ∗ pPts d (qC c) (perm m d) ∗ oPts d (coreOf c.val) g)
abbrev atTile (d : Dev nD) (c : Fin 2) (i : Fin 16) (g : S33554432.Idx → Elt F .f32) : sProp 𝕄 :=
  iprop(xPts d (qT c i) (flat m d) ∗ pPts d (qT c i) (perm m d) ∗ oPts d (pieceOf (2 * i.val + c.val)) g)

/-- The result whole is the two SparseCores' elements of it; a SparseCore's are its sixteen vector subcores'. -/
theorem split_oAll (d : Dev nD) (g : S33554432.Idx → Elt F .f32) :
    oPts d Finset.univ g = bigSep Finset.univ fun c : Fin 2 => oPts d (coreOf c.val) g :=
  (congrArg (fun s => oPts d s g) cores_cover.symm).trans
    (pointsTo_biUnion (ℓ := oLoc d) (q := fullShare) (f := g) Finset.univ (fun c : Fin 2 => coreOf c.val) cores_disjoint)
theorem split_oCore (d : Dev nD) (c : Fin 2) (g : S33554432.Idx → Elt F .f32) :
    oPts d (coreOf c.val) g = bigSep Finset.univ fun i : Fin 16 => oPts d (pieceOf (2 * i.val + c.val)) g :=
  (congrArg (fun s => oPts d s g) (pieces_cover c.isLt).symm).trans
    (pointsTo_biUnion (ℓ := oLoc d) (q := fullShare) (f := g) Finset.univ (fun i : Fin 16 => pieceOf (2 * i.val + c.val))
      (pieces_disjoint c.val))

/-- The arrays whole are the two SparseCores' shares. -/
theorem split_all (d : Dev nD) (g : S33554432.Idx → Elt F .f32) :
    atAll m d g = bigSep Finset.univ fun c : Fin 2 => atCore m d c g := by
  unfold atAll atCore
  rw [bigSep_sep', bigSep_sep', split_oAll]
  unfold xPts pPts
  rw [← Transfers.pointsTo_deal Finset.univ ⟨0, Finset.mem_univ _⟩ fullShare,
    ← Transfers.pointsTo_deal Finset.univ ⟨0, Finset.mem_univ _⟩ fullShare]

/-- A SparseCore's share is its sixteen vector subcores'. -/
theorem split_core (d : Dev nD) (c : Fin 2) (g : S33554432.Idx → Elt F .f32) :
    atCore m d c g = bigSep Finset.univ fun i : Fin 16 => atTile m d c i g := by
  unfold atCore atTile
  rw [bigSep_sep', bigSep_sep', split_oCore]
  unfold xPts pPts
  rw [← Transfers.pointsTo_deal Finset.univ ⟨0, Finset.mem_univ _⟩ (qC c),
    ← Transfers.pointsTo_deal Finset.univ ⟨0, Finset.mem_univ _⟩ (qC c)]

/-- What the one call hands each SparseCore and each vector subcore, and what it takes back: the result's elements permuted. -/
def P : (K (F := F)).Pay (nD := nD) (Val := Elt F) (Name := ℕ) (U := UU) where
  st := fun q d c => match q with | 0 => atCore m d (Fin.cast nCore_two c) (m (oLoc d))
  dn := fun q d c => match q with | 0 => atCore m d (Fin.cast nCore_two c) (flatOut m d)
  go := fun q d c i => match q with | 0 => atTile m d (Fin.cast nCore_two c) (Fin.cast nSub_sixteen i) (m (oLoc d))
  td := fun q d c i => match q with | 0 => atTile m d (Fin.cast nCore_two c) (Fin.cast nSub_sixteen i) (flatOut m d)
  x := fun _ _ => iprop(emp)

instance P_storable : (P (F := F) m).IsStorable where
  st q d c := match q with
    | 0 => (inferInstance : BI.Storable (upEmb : UEmb _ 𝕄) (atCore m d (Fin.cast nCore_two c) (m (oLoc d))))
  dn q d c := match q with
    | 0 => (inferInstance : BI.Storable (upEmb : UEmb _ 𝕄) (atCore m d (Fin.cast nCore_two c) (flatOut m d)))
  go q d c i := match q with
    | 0 => (inferInstance : BI.Storable (upEmb : UEmb _ 𝕄) (atTile m d (Fin.cast nCore_two c) (Fin.cast nSub_sixteen i) (m (oLoc d))))
  td q d c i := match q with
    | 0 => (inferInstance : BI.Storable (upEmb : UEmb _ 𝕄) (atTile m d (Fin.cast nCore_two c) (Fin.cast nSub_sixteen i) (flatOut m d)))

variable [FloatOps F]

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          xV (Memref.isWhole_whole _) pV (Memref.isWhole_whole _) oV (Memref.isWhole_whole _)
          sP (Memref.isWhole_whole _) sX (Memref.isWhole_whole _) sO (Memref.isWhole_whole _) cc0_scoped0 cc0_scoped1 cc0_scoped2) ⟨⟩ c s := rfl

/-- Every vector subcore's task, the permutation in range. -/
theorem tileObl (hp : ∀ d i, (perm m d i).toNat < 4096) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (flat m d) (m (oLoc d)) (perm m d) (hp d) _ _ O W hO

omit [FloatOps F] in
theorem bigSep_tasks (Φ : Fin 16 → sProp 𝕄) :
    (bigSep Finset.univ fun i : Fin ((K (F := F)).nSub 0) => Φ (Fin.cast nSub_sixteen i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_two c)) = bigSep Finset.univ Φ :=
  bigSep_congr fun _ _ => congrArg Φ (Fin.ext rfl)

/-- A SparseCore's share is dealt to its vector subcores and joined when they are done. -/
theorem vecSplit : (K (F := F)).VecSplit' (P m) 0 := by
  intro d c
  show atCore m d (Fin.cast nCore_two c) (m (oLoc d)) ⊢ |={Set.univ}=> iprop(
      (bigSep Finset.univ fun i : Fin ((K (F := F)).nSub 0) => atTile m d (Fin.cast nCore_two c) (Fin.cast nSub_sixteen i) (m (oLoc d)))
      ∗ ((bigSep Finset.univ fun i : Fin ((K (F := F)).nSub 0) => atTile m d (Fin.cast nCore_two c) (Fin.cast nSub_sixteen i) (flatOut m d))
          -∗ atCore m d (Fin.cast nCore_two c) (flatOut m d)))
  rw [bigSep_tasks (F := F) (fun i => atTile m d (Fin.cast nCore_two c) i (m (oLoc d))),
    bigSep_tasks (F := F) (fun i => atTile m d (Fin.cast nCore_two c) i (flatOut m d)), ← split_core, ← split_core]
  iintro H; imodintro
  isplitl [H]; · iexact H
  iintro H; iexact H

theorem st0_eq (d : Dev nD) : (bigSep Finset.univ fun c : Fin ((K (F := F)).nCore 0) => (P m).st 0 d c) = atAll m d (m (oLoc d)) := by
  rw [split_all]; exact bigSep_cores (F := F) fun c => atCore m d c (m (oLoc d))
theorem dn0_eq (d : Dev nD) : (bigSep Finset.univ fun c : Fin ((K (F := F)).nCore 0) => (P m).dn 0 d c) = atAll m d (flatOut m d) := by
  rw [split_all]; exact bigSep_cores (F := F) fun c => atCore m d c (flatOut m d)

/-! ## The launch element -/

def u₀ : UU := (initOf (K (F := F)).hsCells (K (F := F)).hsToks, 1)

omit [FloatOps F] in
/-- Nothing is owned beside the handshakes. -/
theorem bigSep_emp {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp]
  iempintro

/-! ## @main on the TensorCore -/

abbrev a' : DevRef τ sig := Proc.devRef .tc (main_arg0 : Ref sig .tc)
abbrev p' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the argument flattened, the flat result given the argument's shape. -/
abbrev opIn : HloOp τ sig (Elt F) := StableHlo.reshape main_arg0 main_v0 (rfl : (.f32 : EltTy) = .f32) shapeCasts_S8192x4096_S33554432
abbrev opOut : HloOp τ sig (Elt F) := StableHlo.reshape main_v1 main_v2 (rfl : (.f32 : EltTy) = .f32) shapeCasts_S33554432_S8192x4096

/-- The TensorCore's five arrays. -/
abbrev S5 : Finset (DevRef τ sig) := {a', p', x', o', r'}

omit [FloatOps F] in
theorem held_S5 (d : Dev nD) (W : Valuation τ sig (Elt F)) :
    (held (T d) S5 W : sProp 𝕄) = iprop((aLoc d ↦{fullShare} W a') ∗ (pLoc d ↦{fullShare} W p') ∗ (xLoc d ↦{fullShare} W x')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (pLoc d ↦{fullShare} W main_arg1) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at launch, and after the call: the flat argument in its buffer, the flat result in its own. -/
def V0 (d : Dev nD) : Valuation τ sig (Elt F) := fun b => m (d, b)
def V2 (d : Dev nD) : Valuation τ sig (Elt F) := Function.update ((opIn (F := F)).result (V0 m d)) o' (flatOut m d)

theorem unscoped_held (d : Dev nD) : (unscopedBufs d (fun b => m ((SparseCore.T d).loc b)) : sProp 𝕄) = held (T d) S5 (V0 m d) := by
  rw [unscopedBufs_eq, held_S5]; rfl

theorem hIn : (opIn (F := F)).bufs ⊆ S5 := show ({a', x'} : Finset (DevRef τ sig)) ⊆ S5 by decide
theorem hOut : (opOut (F := F)).bufs ⊆ S5 := show ({o', r'} : Finset (DevRef τ sig)) ⊆ S5 by decide

/-- The first operation leaves every array but the flat argument's as it was. -/
theorem in_ne (d : Dev nD) {b : Ref sig .tc} (h : b ≠ main_v0) : (opIn (F := F)).result (V0 m d) (Proc.devRef .tc b) = m ((SparseCore.T d).loc b) :=
  StableHlo.reshape_result_ne _ _ _ _ _ _ _ h

theorem in_x (d : Dev nD) : (opIn (F := F)).result (V0 m d) x' = flat m d := StableHlo.reshape_result _ _ _ _ _ _ _

/-- What @main leaves: the arguments as they were, the result at the argument with its columns permuted. -/
abbrev FIN (d : Dev nD) : sProp 𝕄 := iprop((aLoc d ↦{fullShare} m (aLoc d)) ∗ (pLoc d ↦{fullShare} m (pLoc d)) ∗ rLoc d ↦{fullShare} out m d)

/-- The arrays before the call, one by one. -/
theorem held_in (d : Dev nD) :
    (held (T d) S5 ((opIn (F := F)).result (V0 m d)) : sProp 𝕄)
      = iprop((aLoc d ↦{fullShare} m (aLoc d)) ∗ (pLoc d ↦{fullShare} m (pLoc d)) ∗ (xLoc d ↦{fullShare} flat m d)
          ∗ (oLoc d ↦{fullShare} m (oLoc d)) ∗ rLoc d ↦{fullShare} m (rLoc d)) := by
  rw [held_S5, in_x, in_ne m d (b := main_arg0) (by decide), in_ne m d (b := main_arg1) (by decide), in_ne m d (b := main_v1) (by decide),
    in_ne m d (b := main_v2) (by decide)]

theorem V2_ne (d : Dev nD) {b : Ref sig .tc} (h : b ≠ main_v1) :
    V2 m d (Proc.devRef .tc b) = (opIn (F := F)).result (V0 m d) (Proc.devRef .tc b) :=
  Function.update_of_ne (fun e => h (Proc.devRef_injective _ e)) _ _

/-- The arrays after the call, one by one. -/
theorem held_mid (d : Dev nD) :
    (held (T d) S5 (V2 m d) : sProp 𝕄)
      = iprop((aLoc d ↦{fullShare} m (aLoc d)) ∗ (pLoc d ↦{fullShare} m (pLoc d)) ∗ (xLoc d ↦{fullShare} flat m d)
          ∗ (oLoc d ↦{fullShare} flatOut m d) ∗ rLoc d ↦{fullShare} m (rLoc d)) := by
  rw [held_S5, V2_ne m d (b := main_arg0) (by decide), V2_ne m d (b := main_arg1) (by decide), V2_ne m d (b := main_v0) (by decide),
    V2_ne m d (b := main_v2) (by decide), in_x, in_ne m d (b := main_arg0) (by decide), in_ne m d (b := main_arg1) (by decide),
    in_ne m d (b := main_v2) (by decide)]
  unfold V2
  rw [Function.update_self]

theorem out_ne (d : Dev nD) {b : Ref sig .tc} (h : b ≠ main_v2) :
    (opOut (F := F)).result (V2 m d) (Proc.devRef .tc b) = V2 m d (Proc.devRef .tc b) :=
  StableHlo.reshape_result_ne _ _ _ _ _ _ _ h

theorem out_r (d : Dev nD) : (opOut (F := F)).result (V2 m d) r' = out m d := by
  refine (StableHlo.reshape_result main_v1 main_v2 _ _ _ _ _).trans ?_
  funext i
  show shapeCast S8192x4096 (V2 m d o') _ i = _
  unfold V2 out
  rw [Function.update_self]

/-- The arrays at the end, one by one. -/
theorem held_out (d : Dev nD) :
    (held (T d) S5 ((opOut (F := F)).result (V2 m d)) : sProp 𝕄)
      ⊢ FIN m d := by
  rw [held_S5, out_r, out_ne m d (b := main_arg0) (by decide), out_ne m d (b := main_arg1) (by decide), V2_ne m d (b := main_arg0) (by decide),
    V2_ne m d (b := main_arg1) (by decide), in_ne m d (b := main_arg0) (by decide), in_ne m d (b := main_arg1) (by decide)]
  iintro ⟨Ha, Hp, -, -, Hr⟩
  isplitl [Ha]; · iexact Ha
  isplitl [Hp]; · iexact Hp
  iexact Hr

/-- @main on device `d`'s TensorCore: the argument flattened, the call, the result's shape restored. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  ihave Hh := (Entails.of_eq (held_in m d)) $$ Hheld
  icases Hh with ⟨Ha, Hp, Hx, Ho, Hr⟩
  rw [wp_ret]; imodintro
  iapply ((K (F := F)).wp_run (D (F := F)) 𝒱 (EH := EH) (P := P m) κ d 0) $$ [Hst Hx Hp Ho Ha Hb Hr Hts]
  isplitr; · iexact Hctx
  isplitl [Hst]; · iexact Hst
  isplitl [Hx Hp Ho]
  · rw [st0_eq]
    isplitl [Hx]; · iexact Hx
    isplitl [Hp]; · iexact Hp
    iexact Ho
  iintro ⟨Hst, Hdn⟩
  ihave Hdn' := (Entails.of_eq (dn0_eq m d)) $$ Hdn
  icases Hdn' with ⟨Hx, Hp, Ho⟩
  iapply (wp_hlo_within 𝒱 (SparseCore.T d) none Set.univ (op := opOut) (S := S5) hOut (V := V2 m d)) $$ [Hb Ha Hp Hx Ho Hr]
  · isplitl [Hb]; · iexact Hb
    rw [held_mid]
    isplitl [Ha]; · iexact Ha
    isplitl [Hp]; · iexact Hp
    isplitl [Hx]; · iexact Hx
    isplitl [Ho]; · iexact Ho
    iexact Hr
  iintro ⟨Hb, Hheld⟩
  rw [wp_ret]; imodintro; imodintro
  isplitl [Hst]; · iexact Hst
  isplitl [Hheld]; · iapply (held_out m d); iexact Hheld
  isplitl [Hb] <;> iassumption

/-- What the final memory holds on device `d`. -/
def fq (d : Dev nD) (s' : Phys nD τ sig (Elt F)) : Prop :=
  s'.mem.mem (aLoc d) = m (aLoc d) ∧ s'.mem.mem (pLoc d) = m (pLoc d) ∧ s'.mem.mem (rLoc d) = out m d

/-- An array held whole is what the memory holds. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Hp, Hr⟩, HSI⟩
  ihave H := (agree s' (aLoc d) _) $$ [HSI Ha]
  · isplitl [HSI] <;> iassumption
  icases H with ⟨%ha, HSI⟩
  ihave H := (agree s' (pLoc d) _) $$ [HSI Hp]
  · isplitl [HSI] <;> iassumption
  icases H with ⟨%hp, HSI⟩
  ihave H := (agree s' (rLoc d) _) $$ [HSI Hr]
  · isplitl [HSI] <;> iassumption
  icases H with ⟨%hr, -⟩
  ipureintro; exact ⟨ha, hp, hr⟩

/-! ## The program's run -/

/-- The final memory on every device, and every semaphore at zero. -/
def QC : PUnit × MemSt nD τ sig (Elt F) → Prop := fun r =>
  (∀ d : Dev nD, r.2.mem (aLoc d) = m (aLoc d) ∧ r.2.mem (pLoc d) = m (pLoc d) ∧ r.2.mem (rLoc d) = out m d) ∧ r.2.sem = fun _ => 0

/-- The program runs, from any memory whose permutation names columns: the arguments end unchanged, the result is the argument with
    its columns permuted, and every semaphore is at zero. -/
theorem run_main [∀ e, Nonempty (Elt F e)] (hp : ∀ d i, (perm m d i).toNat < 4096) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hp)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Columns.lean ====
module

public import proofs.«01_k».proof.Proof.Whole
public import proofs.«01_k».proof.Proof.Gen.Pre_in_range
public import Idealize.ShloMosaic.Lib.Pipeline.Value
public import Idealize.ShloMosaic.Lib.ValueIdxCore
public import Idealize.ShloMosaic.Lib.ReduceAll
public import Idealize.ShloMosaic.Lib.WordCmp

@[expose] public section

/-!
# The matrix with its columns permuted

The value both programs compute, what the flat target is in the matrix's shape, and what the precondition says of the permutation.
-/

namespace Cert.Proof

open Idealize.ShloMosaic Idealize.ShloMosaic.ValueIdx

abbrev Matrix : Shape := ⟨2, ![8192, 4096]⟩
abbrev Columns : Shape := ⟨1, ![4096]⟩

variable {α : Type}

/-- The entry of the permutation an index's column reads. -/
abbrev colOf (y : Matrix.Idx) : Columns.Idx := ix1 (y 1)

/-- Row `r`, column `c` of the result is row `r`, column `p c` of `x`. -/
def columns (x : Matrix.Idx → α) (p : Columns.Idx → BitVec 32) : Matrix.Idx → α :=
  fun y => x (ix2 (y 0) ⟨(p (colOf y)).toNat % 4096, Nat.mod_lt _ (by decide)⟩)

/-- The flat target of the flat matrix, in the matrix's shape, is the matrix with its columns permuted. -/
theorem shaped (x : Matrix.Idx → α) (p : Columns.Idx → BitVec 32) (hp : ∀ i, (p i).toNat < 4096) (h : Matrix.ShapeCasts Flat)
    (h' : Flat.ShapeCasts Matrix) : shapeCast Matrix (target (shapeCast Flat x h) p) h' = columns x p := by
  funext y
  have h0 : (y 0).val < 8192 := (y 0).isLt
  have h1 : (y 1).val < 4096 := (y 1).isLt
  have e : (el 4096 (((y 0).val * 4096 + (y 1).val) % 4096) : Columns.Idx) = colOf y :=
    el_ext ((el_val (Nat.mod_lt _ (by decide))).trans (show _ = (y 1).val by omega))
  have hq := hp (colOf y)
  refine (shapeCast_apply _ h' y (el 33554432 ((y 0).val * 4096 + (y 1).val)) ?_).trans ?_
  · rw [Shape.rowMajor_val_one, Shape.rowMajor_val_two, el_val (by omega)]; rfl
  · unfold target columns
    rw [el_val (by omega), e]
    refine shapeCast_apply x h _ _ ?_
    rw [Shape.rowMajor_val_one, Shape.rowMajor_val_two, el_val (by omega)]
    show (y 0).val * 4096 + (p (colOf y)).toNat % 4096 = _
    omega

/-- The precondition says every entry of the permutation names a column. -/
theorem in_range {F : FTy → Type} [FloatOps F] {x : FVec F Matrix .f32} {p : IVec Columns 32}
    (h : Cert.Pre_in_range.fn x p = fun _ => 1#1) (i : Columns.Idx) : (p i).toNat < 4096 := by
  obtain ⟨a, b⟩ := IntOp.andi_eq_one.1 (show IntOp.andi (IntOp.cmpi .sge (p i) 0#32) (IntOp.cmpi .slt (p i) 4096#32) = 1#1 from congrFun h i)
  rw [IntOp.cmpi_sge, show (0#32).toInt = 0 by decide] at a
  rw [IntOp.cmpi_slt, show (4096#32).toInt = 4096 by decide] at b
  have h32 := (p i).isLt
  rw [BitVec.toInt_eq_toNat_cond] at a b
  split at a <;> omega

/-- An index below 4096 is the same read signed. -/
theorem toInt_of_lt {b : BitVec 32} (h : b.toNat < 4096) : b.toInt = (b.toNat : ℤ) := by
  rw [BitVec.toInt_eq_toNat_cond, if_pos (by omega)]

end Cert.Proof

end
-- ==== Proof.Reference.lean ====
module

public import proofs.«01_k».proof.Proof.Columns
public import proofs.«01_k».proof.Proof.Gen.ReferenceIdeal
public import proofs.«01_k».proof.Proof.Gen.ReferenceIdeal.Run

@[expose] public section

/-!
# The reference

It takes the columns the indices name: an index below zero counts from the end, and a column whose index is out of range is filled.
With every index in range it is the matrix with its columns permuted.
-/

noncomputable section

namespace Cert.Proof.Reference

open Idealize.ShloMosaic Idealize.ShloMosaic.ValueIdx
open Cert.ReferenceIdeal
open Cert.ReferenceIdeal.Facts₀ Cert.ReferenceIdeal.Facts

variable {F : FTy → Type} [FloatOps F]

/-- The indices it takes, each counted from the end when below zero. -/
def wrapped (p : IVec S4096 32) : IVec S4096 32 :=
  select (cmpi .slt p (broadcastInDim S4096 ![] bcast_S_S4096 (constantI S_ 32 0#32)))
    (addi p (broadcastInDim S4096 ![] bcast_S_S4096 (constantI S_ 32 4096#32))) p

/-- The same, as a column. -/
def start (p : IVec S4096 32) : IVec S4096x1 32 := broadcastInDim S4096x1 ![0] bcast_S4096_S4096x1_0 (wrapped p)

/-- Which of them name a column. -/
def named (p : IVec S4096 32) : IVec S4096 1 :=
  Host.reduce IntOp.andi (andi (cmpi .sge (start p) (broadcastInDim S4096x1 ![] bcast_S_S4096x1 (constantI S_ 32 0#32)))
    (cmpi .sle (start p) (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- The reference's result: the gathered column where the index names one, the fill elsewhere. -/
def value (x : FVec F S8192x4096 .f32) (p : IVec S4096 32) : FVec F S8192x4096 .f32 :=
  select (broadcastInDim S8192x4096 ![1] bcast_S4096_S8192x4096_1 (named p))
    (Host.gather gather_S8192x4096_S4096x1_S8192x4096_0_1_n_n_1_1_81921 x (start p))
    (broadcastInDim S8192x4096 ![] bcast_S_S8192x4096 (constant S_ .f32 0x7FC00000#32))

variable {p : IVec S4096 32} (hp : ∀ i, (p i).toNat < 4096)

include hp

/-- Indices in range are taken as they are. -/
theorem wrapped_eq : wrapped p = p := by
  funext i
  have h := hp i
  show Scalar.select (IntOp.cmpi .slt (p i) 0#32) _ _ = p i
  have e : IntOp.cmpi .slt (p i) 0#32 ≠ 1#1 := fun e => by
    rw [IntOp.cmpi_slt, toInt_of_lt h, show (0#32).toInt = 0 by decide] at e
    omega
  exact if_neg e

/-- Every index in range names a column. -/
theorem named_eq (j : S4096.Idx) : named p j = 1#1 := by
  refine Host.reduce_andi_one _ _ _ _ j rfl fun i => ?_
  unfold start
  rw [wrapped_eq hp]
  have bit : ∀ k : S4096.Idx, IntOp.andi (IntOp.cmpi .sge (p k) 0#32) (IntOp.cmpi .sle (p k) 4095#32) = 1#1 := fun k => by
    have h := hp k
    rw [IntOp.andi_eq_one, IntOp.cmpi_sge, IntOp.cmpi_sle, toInt_of_lt h, show (0#32).toInt = 0 by decide, show (4095#32).toInt = 4095 by decide]
    omega
  exact bit _

/-- The gather's dimension numbers: a whole column at each index. -/
abbrev dims : GatherDims S8192x4096 S4096x1 S8192x4096 := gather_S8192x4096_S4096x1_S8192x4096_0_1_n_n_1_1_81921

/-- The gather reads, at row `r` and column `c`, the row `r` at the column `c`'s index. -/
theorem gather_eq (x : FVec F S8192x4096 .f32) (y : S8192x4096.Idx) :
    Host.gather dims x (start p) y = columns x p y := by
  unfold Host.gather columns
  congr 1
  funext a
  refine Fin.ext ?_
  show dims.start y (start p) a + dims.batchCoord y a + dims.offCoord y a = _
  rw [dims.batchCoord_eq_zero _ _ List.not_mem_nil, Nat.add_zero]
  have cases : a = (0 : Fin 2) ∨ a = (1 : Fin 2) := by
    match a with
    | ⟨0, _⟩ => exact .inl rfl
    | ⟨1, _⟩ => exact .inr rfl
  rcases cases with rfl | rfl
  · unfold GatherDims.start GatherDims.offCoord
    rw [dif_neg (show (0 : Fin 2) ∉ dims.startIndexMap by decide), dif_pos (show (0 : Fin 2) ∈ dims.sKept by decide), Nat.zero_add]
    rfl
  · have h := hp (colOf y)
    rw [dims.offCoord_eq_zero _ _ (show (1 : Fin 2) ∉ dims.sKept by decide), Nat.add_zero]
    unfold GatherDims.start
    rw [dif_pos (show (1 : Fin 2) ∈ dims.startIndexMap by decide)]
    unfold start
    rw [wrapped_eq hp]
    have e : broadcastInDim S4096x1 ![0] bcast_S4096_S4096x1_0 p (dims.siIdx y ⟨dims.startIndexMap.idxOf (1 : Fin 2),
        List.idxOf_lt_length_iff.2 (by decide)⟩) = p (colOf y) := congrArg p (funext fun b => by
      match b with
      | ⟨0, _⟩ => rfl)
    refine (congrArg (fun b : BitVec 32 => min b.toInt.toNat (4096 - 1)) e).trans ?_
    show min (p (colOf y)).toInt.toNat (4096 - 1) = (p (colOf y)).toNat % 4096
    rw [toInt_of_lt h]
    omega

/-- With every index in range the reference is the matrix with its columns permuted. -/
theorem value_eq (x : FVec F S8192x4096 .f32) : value x p = columns x p := by
  funext y
  show Scalar.select (named p _) _ _ = _
  rw [named_eq hp]
  exact (select_one _ _).trans (gather_eq hp x y)

omit hp

open Idealize.SL.Sem in
/-- The reference runs: its result is that value, and its arguments are unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.Reference

end
-- ==== Proof.lean ====
module

public import proofs.«01_k».proof.Defs
public import proofs.«01_k».proof.Proof.KernelLaunch
public import proofs.«01_k».proof.Proof.KernelIdealLaunch
public import proofs.«01_k».proof.Proof.Reference
public import Idealize.ShloMosaic.Adequacy
public import Idealize.ShloMosaic.Init

@[expose] public section

noncomputable section

namespace Cert.Proof

open Idealize.ShloMosaic Idealize.SL.Sem

/-- The kernel runs from any memory whose permutation names columns: its arguments are unchanged and every semaphore is at zero. -/
theorem frame_kernel : Cert.quiescent_Kernel := fun m ρ pre =>
  (θ_run Cert.Kernel.defs _ _).mono (fun _ h => ⟨fun c => ⟨(h.1 c).1, (h.1 c).2.1⟩, h.2⟩)
    (Kernel.run_main (F := Bits) m ρ fun d => in_range (pre d))

/-- So does the kernel at exact values. -/
theorem frame_kernel_ideal : Cert.quiescent_KernelIdeal := fun m ρ pre =>
  (θ_run Cert.KernelIdeal.defs _ _).mono (fun _ h => ⟨fun c => ⟨(h.1 c).1, (h.1 c).2.1⟩, h.2⟩)
    (KernelIdeal.run_main (F := Ideal) m ρ fun d => in_range (pre d))

/-- The reference runs from any memory: its arguments are unchanged, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Reference.run (F := Ideal) m ρ)

/-- The kernel at exact values and the reference, from equal arguments whose permutation names columns, end with equal results: the
    matrix with its columns permuted. -/
theorem same_value : Cert.algebraic_KernelIdeal_ReferenceIdeal := fun m ρ m' ρ' pre args => by
  have hp : ∀ d i, (KernelIdeal.perm m d i).toNat < 4096 := fun d => in_range (pre d)
  refine ⟨fun c => columns (m (KernelIdeal.aLoc c)) (KernelIdeal.perm m c), ?_, ?_⟩
  · refine (θ_run Cert.KernelIdeal.defs _ _).mono (fun _ h c => ?_) (KernelIdeal.run_main (F := Ideal) m ρ hp)
    exact ⟨(h.1 c).2.2.trans (shaped (m (KernelIdeal.aLoc c)) (KernelIdeal.perm m c) (hp c) _ _), (h.1 c).1, (h.1 c).2.1⟩
  · refine (θ_run Cert.ReferenceIdeal.defs _ _).mono (fun _ h c => ?_) (Reference.run (F := Ideal) m' ρ')
    refine ⟨(h c).1.trans ?_, (h c).2⟩
    rw [(args c).1, (args c).2]
    exact Reference.value_eq (hp c) _

theorem claim : Cert.Claim := ⟨Cert.Kernel.Gen.facts, Cert.KernelIdeal.Gen.facts, Cert.ReferenceIdeal.Gen.facts, Cert.Pre_in_range.Gen.facts,
  frame_kernel, frame_kernel_ideal, frame_reference, fun m ρ _ => frame_reference m ρ trivial, trivial, same_value⟩

end Cert.Proof

end
